-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S64x4096 : Shape := ⟨2, ![64, 4096]⟩
abbrev S64x64x4096 : Shape := ⟨3, ![64, 64, 4096]⟩
abbrev S1x1 : Shape := ⟨2, ![1, 1]⟩
abbrev S4096x64x64 : Shape := ⟨3, ![4096, 64, 64]⟩
abbrev S_ : Shape := ⟨0, ![]⟩
abbrev S512x4096 : Shape := ⟨2, ![512, 4096]⟩
abbrev S64x64x512 : Shape := ⟨3, ![64, 64, 512]⟩
abbrev S64x1 : Shape := ⟨2, ![64, 1]⟩
abbrev S512x64 : Shape := ⟨2, ![512, 64]⟩
abbrev S64x512 : Shape := ⟨2, ![64, 512]⟩
abbrev S512 : Shape := ⟨1, ![512]⟩
abbrev S1x512 : Shape := ⟨2, ![1, 512]⟩
abbrev S512x512 : Shape := ⟨2, ![512, 512]⟩
abbrev S64x1x512 : Shape := ⟨3, ![64, 1, 512]⟩
abbrev S1x64x512 : Shape := ⟨3, ![1, 64, 512]⟩
abbrev S64 : Shape := ⟨1, ![64]⟩
abbrev S1x64x1 : Shape := ⟨3, ![1, 64, 1]⟩
abbrev S1 : Shape := ⟨1, ![1]⟩
abbrev S1x1x1 : Shape := ⟨3, ![1, 1, 1]⟩

abbrev nBuf : Space → Nat
  | .hbm => 11
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S64x4096, .f32⟩
  | .hbm, ⟨2, _⟩ => ⟨S64x64x4096, .f32⟩
  | .hbm, ⟨3, _⟩ => ⟨S64x64x4096, .i8⟩
  | .hbm, ⟨4, _⟩ => ⟨S1x1, .f32⟩
  | .hbm, ⟨5, _⟩ => ⟨S4096x64x64, .f32⟩
  | .hbm, ⟨6, _⟩ => ⟨S_, .i8⟩
  | .hbm, ⟨7, _⟩ => ⟨S64x64x4096, .i8⟩
  | .hbm, ⟨8, _⟩ => ⟨S64x64x4096, .i1⟩
  | .hbm, ⟨9, _⟩ => ⟨S4096x64x64, .i1⟩
  | .hbm, ⟨10, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S64x4096, .f32⟩
  | .local _ .vmem, ⟨3, _⟩ => ⟨S64x64x512, .f32⟩
  | .local _ .vmem, ⟨4, _⟩ => ⟨S64x64x512, .f32⟩
  | .local _ .vmem, ⟨5, _⟩ => ⟨S64x64x512, .i8⟩
  | .local _ .vmem, ⟨6, _⟩ => ⟨S64x64x512, .i8⟩
  | .local _ .vmem, ⟨7, _⟩ => ⟨S1x1, .f32⟩
  | .local _ .vmem, ⟨8, _⟩ => ⟨S64x1, .f32⟩
  | .local _ .vmem, ⟨9, _⟩ => ⟨S64x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0_0 : Ref sig .tc := ⟨.hbm, 2, rfl⟩
abbrev main_call0_v0_1 : Ref sig .tc := ⟨.hbm, 3, rfl⟩
abbrev main_call0_v0_2 : Ref sig .tc := ⟨.hbm, 4, rfl⟩
abbrev main_v0_1 : Ref sig .tc := ⟨.hbm, 5, rfl⟩
abbrev main_call0_c : Ref sig .tc := ⟨.hbm, 6, rfl⟩
abbrev main_call0_v2 : Ref sig .tc := ⟨.hbm, 7, rfl⟩
abbrev main_call0_v3 : Ref sig .tc := ⟨.hbm, 8, rfl⟩
abbrev main_v0_2 : Ref sig .tc := ⟨.hbm, 9, rfl⟩
abbrev main_v0_0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x64x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x4096 : Shape := ⟨2, ![4096, 4096]⟩
abbrev S64x4096 : Shape := ⟨2, ![64, 4096]⟩
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S64 : Shape := ⟨1, ![64]⟩
abbrev S4096x64x1 : Shape := ⟨3, ![4096, 64, 1]⟩
abbrev S4096x1x64 : Shape := ⟨3, ![4096, 1, 64]⟩
abbrev S4096x64x64 : Shape := ⟨3, ![4096, 64, 64]⟩

abbrev nBuf : Space → Nat
  | .hbm => 86
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S64x4096, .f32⟩
  | .hbm, ⟨2, _⟩ => ⟨S4096x64, .f32⟩
  | .hbm, ⟨3, _⟩ => ⟨S4096x64, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096x1, .f32⟩
  | .hbm, ⟨10, _⟩ => ⟨S4096x64, .f32⟩
  | .hbm, ⟨11, _⟩ => ⟨S4096x64, .f32⟩
  | .hbm, ⟨12, _⟩ => ⟨S4096x64, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x64, .f32⟩
  | .hbm, ⟨17, _⟩ => ⟨S4096x64, .f32⟩
  | .hbm, ⟨18, _⟩ => ⟨S4096x64, .i32⟩
  | .hbm, ⟨19, _⟩ => ⟨S_, .f32⟩
  | .hbm, ⟨20, _⟩ => ⟨S_, .i32⟩
  | .hbm, ⟨21, _⟩ => ⟨S4096, .f32⟩
  | .hbm, ⟨22, _⟩ => ⟨S4096, .i32⟩
  | .hbm, ⟨23, _⟩ => ⟨S4096x1, .i32⟩
  | .hbm, ⟨24, _⟩ => ⟨S1x64, .i32⟩
  | .hbm, ⟨25, _⟩ => ⟨S4096x64, .i32⟩
  | .hbm, ⟨26, _⟩ => ⟨S4096x64, .i32⟩
  | .hbm, ⟨27, _⟩ => ⟨S4096x64, .i1⟩
  | .hbm, ⟨28, _⟩ => ⟨S4096x64, .i32⟩
  | .hbm, ⟨29, _⟩ => ⟨S4096x64, .f32⟩
  | .hbm, ⟨30, _⟩ => ⟨S4096x64, .f32⟩
  | .hbm, ⟨31, _⟩ => ⟨S_, .f32⟩
  | .hbm, ⟨32, _⟩ => ⟨S4096, .f32⟩
  | .hbm, ⟨33, _⟩ => ⟨S_, .i32⟩
  | .hbm, ⟨34, _⟩ => ⟨S_, .i32⟩
  | .hbm, ⟨35, _⟩ => ⟨S4096x64, .i32⟩
  | .hbm, ⟨36, _⟩ => ⟨S_, .i32⟩
  | .hbm, ⟨37, _⟩ => ⟨S4096x64, .i32⟩
  | .hbm, ⟨38, _⟩ => ⟨S4096x64, .i32⟩
  | .hbm, ⟨39, _⟩ => ⟨S_, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S4096x64, .f32⟩
  | .hbm, ⟨45, _⟩ => ⟨S_, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .i32⟩
  | .hbm, ⟨60, _⟩ => ⟨S4096x64, .i32⟩
  | .hbm, ⟨61, _⟩ => ⟨S4096x64, .i1⟩
  | .hbm, ⟨62, _⟩ => ⟨S4096x64, .i32⟩
  | .hbm, ⟨63, _⟩ => ⟨S4096x64, .i32⟩
  | .hbm, ⟨64, _⟩ => ⟨S4096x64, .i32⟩
  | .hbm, ⟨65, _⟩ => ⟨S_, .i32⟩
  | .hbm, ⟨66, _⟩ => ⟨S4096, .i32⟩
  | .hbm, ⟨67, _⟩ => ⟨S4096x1, .f32⟩
  | .hbm, ⟨68, _⟩ => ⟨S4096x64, .f32⟩
  | .hbm, ⟨69, _⟩ => ⟨S4096x64, .f32⟩
  | .hbm, ⟨70, _⟩ => ⟨S4096x64, .f32⟩
  | .hbm, ⟨71, _⟩ => ⟨S4096x1, .i32⟩
  | .hbm, ⟨72, _⟩ => ⟨S1x64, .i32⟩
  | .hbm, ⟨73, _⟩ => ⟨S4096x64, .i32⟩
  | .hbm, ⟨74, _⟩ => ⟨S4096x64, .i32⟩
  | .hbm, ⟨75, _⟩ => ⟨S4096x64, .i1⟩
  | .hbm, ⟨76, _⟩ => ⟨S4096x64, .f32⟩
  | .hbm, ⟨77, _⟩ => ⟨S4096x64x1, .f32⟩
  | .hbm, ⟨78, _⟩ => ⟨S4096x1x64, .f32⟩
  | .hbm, ⟨79, _⟩ => ⟨S4096x64x64, .f32⟩
  | .hbm, ⟨80, _⟩ => ⟨S4096x64x64, .f32⟩
  | .hbm, ⟨81, _⟩ => ⟨S4096x64x64, .f32⟩
  | .hbm, ⟨82, _⟩ => ⟨S_, .f32⟩
  | .hbm, ⟨83, _⟩ => ⟨S4096x64x64, .f32⟩
  | .hbm, ⟨84, _⟩ => ⟨S4096x64x64, .i1⟩
  | .hbm, ⟨85, _⟩ => ⟨S4096x64x64, .i1⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v13 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_call2_call0_c : Ref sig .tc := ⟨.hbm, 33, rfl⟩
abbrev main_call2_call0_v0 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_7 : Ref sig .tc := ⟨.hbm, 51, rfl⟩
abbrev main_v29 : Ref sig .tc := ⟨.hbm, 52, rfl⟩
abbrev main_cst_8 : Ref sig .tc := ⟨.hbm, 53, rfl⟩
abbrev main_v30 : Ref sig .tc := ⟨.hbm, 54, rfl⟩
abbrev main_cst_9 : Ref sig .tc := ⟨.hbm, 55, rfl⟩
abbrev main_v31 : Ref sig .tc := ⟨.hbm, 56, rfl⟩
abbrev main_cst_10 : Ref sig .tc := ⟨.hbm, 57, rfl⟩
abbrev main_v32 : Ref sig .tc := ⟨.hbm, 58, rfl⟩
abbrev main_c_11 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_12 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_13 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩

abbrev nD : Nat := 1
abbrev τ : Topo := Topo.v7x

variable {F : FTy → Type} [FloatOps F]
-- ==== Proof.Top1.Spec.lean ====
/- What the top-1 router computes, in plain extended-real mathematics, with no program in sight: the softmax of a
   token's logits (the gates), the expert a token picks, how many earlier tokens picked each expert, the combine
   weight of a token, expert and slot, and the load-balancing loss. Tokens are numbered 0 … 4095 and experts and slots
   0 … 63. A table of gates is a function `G : ℕ → Fin 64 → EReal` of the token's number. -/
module

public import Idealize.ShloMosaic.PureOps.Ideal.Laws
public import Idealize.ShloMosaic.Lib.Pipeline.ValueKit

@[expose] public section

noncomputable section

open Idealize.ShloMosaic

namespace Cert.Top1

/-- The softmax of 64 logits at one of them: its exponential, taken after the largest logit is subtracted, over the sum
    of all of them. -/
def softmax (l : Fin 64 → EReal) (e : Fin 64) : EReal :=
  Ideal.div (Ideal.exp (l e - Finset.univ.fold max ⊥ l)) (∑ x, Ideal.exp (l x - Finset.univ.fold max ⊥ l))

/-- The gates of tokens `x` and expert weights `w`: the softmax over the experts of each token's products with the
    expert weights. (Past the last token the table holds 0; nothing reads it there.) -/
def table (x : Fin 4096 → Fin 4096 → EReal) (w : Fin 64 → Fin 4096 → EReal) (s : ℕ) (e : Fin 64) : EReal :=
  if h : s < 4096 then softmax (fun e' => ∑ k, x ⟨s, h⟩ k * w e' k) e else 0

/-- The experts whose gate no other gate exceeds. -/
def tops (g : Fin 64 → EReal) : Finset (Fin 64) := Finset.univ.filter fun e => ∀ e', g e' ≤ g e

/-- Some gate is not exceeded. -/
theorem tops_nonempty (g : Fin 64 → EReal) : (tops g).Nonempty := by
  obtain ⟨e, -, he⟩ := Finset.exists_max_image Finset.univ g ⟨0, Finset.mem_univ 0⟩
  exact ⟨e, Finset.mem_filter.2 ⟨Finset.mem_univ e, fun e' => he e' (Finset.mem_univ e')⟩⟩

/-- The expert a token picks: the first one whose gate no other exceeds. -/
def pick (g : Fin 64 → EReal) : Fin 64 := (tops g).min' (tops_nonempty g)

/-- No gate exceeds the picked expert's. -/
theorem le_pick (g : Fin 64 → EReal) (e : Fin 64) : g e ≤ g (pick g) :=
  (Finset.mem_filter.1 ((tops g).min'_mem (tops_nonempty g))).2 e

/-- The picked expert comes first among those whose gate is not exceeded. -/
theorem pick_le (g : Fin 64 → EReal) (e : Fin 64) (he : ∀ e', g e' ≤ g e) : pick g ≤ e :=
  (tops g).min'_le e (Finset.mem_filter.2 ⟨Finset.mem_univ e, he⟩)

/-- An expert whose gate is not exceeded, and which comes no later than any other of the same gate, is the picked one. -/
theorem eq_pick (g : Fin 64 → EReal) (e : Fin 64) (he : ∀ e', g e' ≤ g e) (hf : ∀ e', g e' = g e → e ≤ e') :
    e = pick g :=
  le_antisymm (hf _ (le_antisymm (he _) (le_pick g e))) (pick_le g e he)

/-- The largest of 64 gates is the picked expert's. -/
theorem fold_max (g : Fin 64 → EReal) : Finset.univ.fold max ⊥ g = g (pick g) :=
  le_antisymm (Finset.fold_max_le _ |>.2 ⟨bot_le, fun e _ => le_pick g e⟩)
    (Finset.le_fold_max _ |>.2 (Or.inr ⟨pick g, Finset.mem_univ _, le_rfl⟩))

/-- 1 when token `s` picks expert `e`, and 0 otherwise. -/
def hit (G : ℕ → Fin 64 → EReal) (e : Fin 64) (s : ℕ) : ℕ := if e = pick (G s) then 1 else 0

/-- How many of the first `n` tokens pick expert `e`. -/
def load (G : ℕ → Fin 64 → EReal) (e : Fin 64) (n : ℕ) : ℕ := ∑ s ∈ Finset.range n, hit G e s

/-- No more than `n` of the first `n` tokens pick an expert. -/
theorem load_le (G : ℕ → Fin 64 → EReal) (e : Fin 64) (n : ℕ) : load G e n ≤ n := by
  refine (Finset.sum_le_card_nsmul _ _ 1 fun s _ => ?_).trans (by simp)
  unfold hit; split <;> omega

/-- One token more: its own hit is added. -/
theorem load_succ (G : ℕ → Fin 64 → EReal) (e : Fin 64) (n : ℕ) : load G e (n + 1) = load G e n + hit G e n :=
  Finset.sum_range_succ _ n

/-- More tokens: their own hits are added. -/
theorem load_add (G : ℕ → Fin 64 → EReal) (e : Fin 64) (b n : ℕ) :
    load G e (b + n) = load G e b + ∑ s ∈ Finset.range n, hit G e (b + s) :=
  Finset.sum_range_add _ b n

/-- The combine weight of token `t`, expert `e` and slot `c`: the token's largest gate, if the token picks `e`, is among
    the first 64 tokens that do, and `c` is the number of tokens before it that picked `e`; 0 otherwise. -/
def weight (G : ℕ → Fin 64 → EReal) (t : ℕ) (e c : Fin 64) : EReal :=
  if e = pick (G t) ∧ load G e t = c.val then G t (pick (G t)) else 0

/-- The load-balancing loss: over the experts, the number of tokens that pick an expert times the sum of its gates,
    summed, and scaled by 64 / 4096². -/
def balance (G : ℕ → Fin 64 → EReal) : EReal :=
  ((64 / 4096 ^ 2 : ℝ) : EReal) * ∑ e, (load G e 4096 : EReal) * ∑ t : Fin 4096, G t.val e

end Cert.Top1

end
-- ==== Proof.Top1.Words.lean ====
/- The machine words of the router, read as numbers: a comparison widened to a word and converted to a float is 0 or 1,
   an expert's number as a word determines the expert, a natural that was counted in floats converts back to its word,
   a minimum of words is the minimum of what they hold, and the constants the two programs spell as bit patterns. -/
module

public import proofs.«01_k».proof.Proof.Top1.Spec

@[expose] public section

noncomputable section

open Idealize.ShloMosaic

namespace Cert.Top1

/-- An expert's number as a word determines the expert. -/
theorem ofNat_inj {a b : ℕ} (ha : a < 2 ^ 32) (hb : b < 2 ^ 32) : BitVec.ofNat 32 a = BitVec.ofNat 32 b ↔ a = b := by
  rw [← BitVec.toNat_inj, BitVec.toNat_ofNat, BitVec.toNat_ofNat, Nat.mod_eq_of_lt ha, Nat.mod_eq_of_lt hb]

/-- The same for two experts. -/
theorem expert_inj (a b : Fin 64) : BitVec.ofNat 32 a.val = BitVec.ofNat 32 b.val ↔ a = b := by
  rw [ofNat_inj (by omega) (by omega), Fin.ext_iff]

/-- A small natural's word, read signed, is that natural. -/
theorem toInt_ofNat {a : ℕ} (ha : a < 2 ^ 31) : (BitVec.ofNat 32 a).toInt = a := by
  have h : (BitVec.ofNat 32 a).toNat = a := by rw [BitVec.toNat_ofNat]; omega
  rw [BitVec.toInt_eq_toNat_of_lt (by omega), h]

/-- A natural's word converted to a float is the natural. -/
theorem sitofp_ofNat {a : ℕ} (ha : a < 2 ^ 31) :
    FloatOps.sitofp (F := Ideal) .f32 (BitVec.ofNat 32 a) = ((a : ℕ) : EReal) := by
  show ((((BitVec.ofNat 32 a).toInt : ℤ) : ℝ) : EReal) = _
  rw [toInt_ofNat ha]; simp

/-- An equality test, widened to a word, is the word of 1 or of 0. -/
theorem setWidth_eq (a b : BitVec 32) :
    BitVec.setWidth 32 (IntOp.cmpi .eq a b) = BitVec.ofNat 32 (if a = b then 1 else 0) := by
  by_cases h : a = b
  · simp [IntOp.cmpi, h]
  · simp [IntOp.cmpi, h, beq_eq_false_iff_ne.2 h]

/-- A signed less-than test, widened to a word. -/
theorem setWidth_slt (a b : BitVec 32) :
    BitVec.setWidth 32 (IntOp.cmpi .slt a b) = BitVec.ofNat 32 (if a.toInt < b.toInt then 1 else 0) := by
  by_cases h : a.toInt < b.toInt <;> simp [IntOp.cmpi, BitVec.slt, h]

/-- A signed at-most test, widened to a word. -/
theorem setWidth_sle (a b : BitVec 32) :
    BitVec.setWidth 32 (IntOp.cmpi .sle a b) = BitVec.ofNat 32 (if a.toInt ≤ b.toInt then 1 else 0) := by
  by_cases h : a.toInt ≤ b.toInt <;> simp [IntOp.cmpi, BitVec.sle, h]

/-- An equality test, widened and converted to a float, is 1 or 0. -/
theorem sitofp_eq (a b : BitVec 32) :
    FloatOps.sitofp (F := Ideal) .f32 (BitVec.setWidth 32 (IntOp.cmpi .eq a b))
      = (((if a = b then 1 else 0 : ℕ) : ℕ) : EReal) := by
  rw [setWidth_eq, sitofp_ofNat (by split <;> omega)]

/-- An equality test converted to a float directly. -/
theorem uitofp_eq (a b : BitVec 32) :
    FloatOps.uitofp (F := Ideal) .f32 (IntOp.cmpi .eq a b) = (((if a = b then 1 else 0 : ℕ) : ℕ) : EReal) := by
  show ((((IntOp.cmpi .eq a b).toNat : ℕ) : ℝ) : EReal) = _
  by_cases h : a = b <;> simp [IntOp.cmpi, h]

/-- Whether a position comes no later than another, widened and converted to a float, is 1 or 0. -/
theorem sitofp_sle (r j : Fin 512) :
    FloatOps.sitofp (F := Ideal) .f32
        (BitVec.setWidth 32 (IntOp.cmpi .sle (BitVec.ofNat 32 r.val) (BitVec.ofNat 32 j.val)))
      = (((if r.val ≤ j.val then 1 else 0 : ℕ) : ℕ) : EReal) := by
  rw [setWidth_sle, sitofp_ofNat (by split <;> omega), toInt_ofNat (by omega), toInt_ofNat (by omega)]
  simp only [Int.ofNat_le]

/-- A natural that a float holds converts back to its word. -/
theorem fptosi_natCast {n : ℕ} (hn : n < 2 ^ 31) : Ideal.fptosi 32 ((n : ℕ) : EReal) = BitVec.ofNat 32 n := by
  have h : ((n : ℕ) : EReal) = (((n : ℕ) : ℝ) : EReal) := by simp
  rw [h, Ideal.fptosi, Ideal.toIntClamped_coe, if_pos (Nat.cast_nonneg n), Int.floor_natCast]
  have : max (-((2 ^ (32 - 1) : ℕ) : ℤ)) (min (((2 ^ (32 - 1) : ℕ) : ℤ) - 1) (n : ℤ)) = (n : ℤ) := by omega
  rw [this, BitVec.ofInt_natCast]

/-- The smaller of two words holds the smaller of what they hold. -/
theorem toInt_minsi (a b : BitVec 32) : (IntOp.minsi a b).toInt = min a.toInt b.toInt := by
  unfold IntOp.minsi
  by_cases h : a.toInt < b.toInt
  · rw [if_pos (by simpa [BitVec.slt] using h), min_eq_left h.le]
  · rw [if_neg (by simpa [BitVec.slt] using h), min_eq_right (not_lt.1 h)]

/-- The least number among the experts whose gate is the largest one, as the kernel takes it: 64 stands at the others,
    and the minimum starts from the greatest word. -/
theorem fold_minsi (g : Fin 64 → EReal) :
    Finset.univ.fold IntOp.minsi 2147483647#32
        (fun e : Fin 64 => if g e = g (pick g) then BitVec.ofNat 32 e.val else 64#32)
      = BitVec.ofNat 32 (pick g).val := by
  apply BitVec.eq_of_toInt_eq
  have hv : ∀ e : Fin 64, (if g e = g (pick g) then BitVec.ofNat 32 e.val else 64#32).toInt
      = if g e = g (pick g) then (e.val : ℤ) else 64 := fun e => by
    split
    · exact toInt_ofNat (by omega)
    · rfl
  rw [← Finset.fold_hom (op' := min) (m := BitVec.toInt) toInt_minsi, toInt_ofNat (a := (pick g).val) (by omega)]
  simp only [hv]
  refine le_antisymm (Finset.fold_min_le _ |>.2 (Or.inr ⟨pick g, Finset.mem_univ _, by rw [if_pos rfl]⟩))
    (Finset.le_fold_min _ |>.2 ⟨?_, fun e _ => ?_⟩)
  · have : (2147483647#32).toInt = 2147483647 := by decide
    omega
  · split
    · next h => exact_mod_cast pick_le g e fun e' => h ▸ le_pick g e'
    · have := (pick g).isLt; omega

/-- A sum of words all of which are 0 but one is that one. -/
theorem fold_addi_single {ι : Type} [DecidableEq ι] (s : Finset ι) (f : ι → BitVec 32) (a : ι)
    (hf : ∀ i, i ≠ a → f i = 0#32) : s.fold IntOp.addi 0#32 f = if a ∈ s then f a else 0#32 := by
  induction s using Finset.induction_on with
  | empty => rfl
  | insert b s hb ih =>
    rw [Finset.fold_insert hb, ih]
    by_cases h : b = a
    · subst h
      rw [if_neg hb, if_pos (Finset.mem_insert_self b s)]
      exact BitVec.add_zero _
    · rw [hf b h]
      refine (BitVec.zero_add _).trans (if_congr ?_ rfl rfl)
      rw [Finset.mem_insert, or_iff_right fun h' => h h'.symm]

/-- A sum of naturals taken in the extended reals is their sum. -/
theorem sum_natCast {ι : Type} (s : Finset ι) (f : ι → ℕ) : ∑ i ∈ s, ((f i : ℕ) : EReal) = ((∑ i ∈ s, f i : ℕ) : EReal) :=
  (map_sum (Nat.castAddMonoidHom EReal) f s).symm

/-- A product with a nonnegative real goes outside a sum of extended reals. -/
theorem sum_mul_coe {ι : Type} (s : Finset ι) (f : ι → EReal) (r : ℝ) (hr : 0 ≤ r) :
    (∑ i ∈ s, f i * (r : EReal)) = (∑ i ∈ s, f i) * (r : EReal) := by
  classical
  induction s using Finset.induction_on with
  | empty => simp
  | insert a s ha ih =>
    rw [Finset.sum_insert ha, Finset.sum_insert ha, ih, mul_comm _ (r : EReal), mul_comm _ (r : EReal),
      mul_comm _ (r : EReal), EReal.left_distrib_of_nonneg_of_ne_top (EReal.coe_nonneg.2 hr) (EReal.coe_ne_top r)]

/-- The pattern of minus infinity. -/
theorem ofBits_bot : Ideal.ofBits .f32 4286578688#32 = ⊥ := by
  simp [Ideal.ofBits, Ideal.ieee]

/-- The pattern of 64. -/
theorem ofBits_64 : Ideal.ofBits .f32 1115684864#32 = ((64 : ℝ) : EReal) := by
  simp [Ideal.ofBits, Ideal.ieee, -EReal.coe_mul]; norm_num

/-- The pattern of 4096. -/
theorem ofBits_4096 : Ideal.ofBits .f32 1166016512#32 = ((4096 : ℝ) : EReal) := by
  simp [Ideal.ofBits, Ideal.ieee, -EReal.coe_mul]; norm_num

/-- A quotient by 64. -/
theorem div_64 (x : EReal) : Ideal.div x (Ideal.ofBits .f32 1115684864#32) = x * ((1 / 64 : ℝ) : EReal) := by
  rw [ofBits_64, Ideal.div_coe (by norm_num)]

/-- A quotient by 4096. -/
theorem div_4096 (x : EReal) : Ideal.div x (Ideal.ofBits .f32 1166016512#32) = x * ((1 / 4096 : ℝ) : EReal) := by
  rw [ofBits_4096, Ideal.div_coe (by norm_num)]

/-- The pattern of 4096². -/
theorem ofBits_sq : Ideal.ofBits .f32 1266679808#32 = ((16777216 : ℝ) : EReal) := by
  simp [Ideal.ofBits, Ideal.ieee, -EReal.coe_mul]; norm_num

/-- The scale of the loss, as the kernel takes it: 64 / 4096². -/
theorem scale_eq : Ideal.div (Ideal.ofBits .f32 1115684864#32) (Ideal.ofBits .f32 1266679808#32)
    = ((64 / 4096 ^ 2 : ℝ) : EReal) := by
  rw [ofBits_sq, ofBits_64, Ideal.div_coe (by norm_num), ← EReal.coe_mul]
  norm_num

end Cert.Top1

end
-- ==== Proof.Top1.Block.lean ====
/- What the kernel computes at one block of 512 tokens, read at an index. The block holds tokens `b`, `b + 1`, …, whose
   gates are rows of a table `G`; the kernel has counted, in the blocks before, how many tokens pick each expert. -/
module

public import proofs.«01_k».proof.Proof.Gen.KernelIdeal.Frame
public import proofs.«01_k».proof.Proof.Top1.Words

@[expose] public section

set_option maxRecDepth 16384

noncomputable section

open Idealize.ShloMosaic

namespace Cert.Top1.Block

open Cert.KernelIdeal Cert.KernelIdeal.Gen

/-- A block's gates are the softmax of its tokens' products with the expert weights. -/
theorem gates_apply (x : Vec Ideal S512x4096 .f32) (w : Vec Ideal S64x4096 .f32) (e : Fin 64) (j : Fin 512) :
    k0_pay5 x w (ix2 e j) = softmax (fun e' => ∑ k, x (ix2 j k) * w (ix2 e' k)) e := by
  pointwise [k0_pay5]
  rw [ofBits_bot]
  rfl

section
variable (G : ℕ → Fin 64 → EReal) (b : ℕ) (x : Vec Ideal S512x4096 .f32) (w : Vec Ideal S64x4096 .f32)
  (hG : ∀ (e : Fin 64) (j : Fin 512), k0_pay5 x w (ix2 e j) = G (b + j.val) e)
include hG

/-- The largest gate of a token is the picked expert's. -/
theorem largest_apply (j : Fin 512) : k0_pay6 x w (ix2 0 j) = G (b + j.val) (pick (G (b + j.val))) := by
  pointwise [k0_pay6]
  rw [ofBits_bot]
  simp only [hG]
  exact fold_max _

/-- The expert a token picks, as a word. -/
theorem picked_apply (j : Fin 512) : k0_pay7 x w (ix2 0 j) = BitVec.ofNat 32 (pick (G (b + j.val))).val := by
  pointwise [k0_pay7]
  rw [← fold_minsi]
  simp only [hG, largest_apply G b x w hG]

/-- The mask of the picked experts. -/
theorem mask_apply (e : Fin 64) (j : Fin 512) : k0_pay8 x w (ix2 e j) = ((hit G e (b + j.val) : ℕ) : EReal) := by
  pointwise [k0_pay8]
  rw [picked_apply G b x w hG, sitofp_eq, hit]
  simp only [expert_inj]

/-- The running count within the block. -/
theorem count_apply (e : Fin 64) (j : Fin 512) :
    k0_pay9 x w (ix2 e j) = ((∑ s ∈ Finset.range (j.val + 1), hit G e (b + s) : ℕ) : EReal) := by
  pointwise [k0_pay9]
  simp only [mask_apply G b x w hG, sitofp_sle]
  have h : ∀ r : Fin 512, ((hit G e (b + r.val) : ℕ) : EReal) * (((if r.val ≤ j.val then 1 else 0 : ℕ) : ℕ) : EReal)
      = (((if r.val ≤ j.val then hit G e (b + r.val) else 0 : ℕ) : ℕ) : EReal) := fun r => by
    split <;> simp
  rw [Finset.sum_congr rfl fun r _ => h r, sum_natCast]
  refine congrArg (fun n : ℕ => (n : EReal)) ?_
  rw [← Finset.sum_range (fun r => if r ≤ j.val then hit G e (b + r) else 0), ← Finset.sum_filter]
  refine Finset.sum_congr (Finset.ext fun s => ?_) fun _ _ => rfl
  have := j.isLt
  simp only [Finset.mem_filter, Finset.mem_range]
  omega

variable (n : Vec Ideal S64x1 .f32) (hn : ∀ e : Fin 64, n (ix2 e 0) = ((load G e b : ℕ) : EReal))
include hn

/-- The running count from the first token on. -/
theorem total_apply (e : Fin 64) (j : Fin 512) :
    k0_pay10 x w n (ix2 e j) = ((load G e (b + j.val + 1) : ℕ) : EReal) := by
  pointwise [k0_pay10]
  rw [hn, count_apply G b x w hG, ← Nat.cast_add, add_assoc b, load_add]

/-- The counts after the block. -/
theorem counts_apply (e : Fin 64) :
    k0_pay13 (k0_pay9 x w) n (ix2 e 0) = ((load G e (b + 512) : ℕ) : EReal) := by
  pointwise [k0_pay13]
  rw [hn, count_apply G b x w hG, ← Nat.cast_add, load_add]
  rfl

/-- A token's place: how many tokens before it pick its expert. -/
theorem place_apply (j : Fin 512) :
    (∑ e : Fin 64, (k0_pay10 x w n (ix2 e j) - 1) * k0_pay8 x w (ix2 e j))
      = ((load G (pick (G (b + j.val))) (b + j.val) : ℕ) : EReal) := by
  simp only [mask_apply G b x w hG, total_apply G b x w hG n hn]
  rw [Finset.sum_eq_single (pick (G (b + j.val))) (fun e _ he => ?_) (fun h => absurd (Finset.mem_univ _) h)]
  · rw [load_succ, hit, if_pos rfl, Nat.cast_one, mul_one, Nat.cast_add, Nat.cast_one]
    exact EReal.add_sub_cancel_right (b := 1)
  · rw [hit, if_neg he, Nat.cast_zero, mul_zero]

variable (hb : b + 512 ≤ 4096) (o : Ideal .f32) (ho : o = (1 : EReal))
include hb ho

/-- The combine weights of the block. -/
theorem weight_apply (e c : Fin 64) (j : Fin 512) :
    k0_pay11 (k0_pay6 x w) (iota .tc S64x512 32 [0] iota_S64x512_d0_w32) (k0_pay7 x w) (k0_pay8 x w) (k0_pay10 x w n)
      o (ix3 e c j) = weight G (b + j.val) e c := by
  pointwise [k0_pay11]
  rw [ho, place_apply G b x w hG n hn, picked_apply G b x w hG, largest_apply G b x w hG, sitofp_eq, ofBits_64]
  have hle := load_le G (pick (G (b + j.val))) (b + j.val)
  have hj := j.isLt
  have hc := c.isLt
  have hf : FloatOps.fptosi (F := Ideal) (φ := .f32) 32 ((load G (pick (G (b + j.val))) (b + j.val) : ℕ) : EReal)
      = BitVec.ofNat 32 (load G (pick (G (b + j.val))) (b + j.val)) := fptosi_natCast (by omega)
  have h64 : (((load G (pick (G (b + j.val))) (b + j.val) : ℕ) : EReal) < ((64 : ℝ) : EReal))
      ↔ load G (pick (G (b + j.val))) (b + j.val) < 64 := by
    rw [show ((64 : ℝ) : EReal) = ((64 : ℕ) : EReal) from EReal.coe_natCast, Nat.cast_lt]
  rw [hf, weight]
  simp only [expert_inj, h64]
  by_cases he : e = pick (G (b + j.val))
  · subst he
    by_cases h : load G (pick (G (b + j.val))) (b + j.val) = c.val
    · simp [h, Scalar.select, IntOp.andi, IntOp.cmpi]
    · have h' : BitVec.ofNat 32 c.val ≠ BitVec.ofNat 32 (load G (pick (G (b + j.val))) (b + j.val)) := fun hw =>
        h ((ofNat_inj (by omega) (by omega)).1 hw).symm
      simp [h, beq_eq_false_iff_ne.2 h', Scalar.select, IntOp.andi, IntOp.cmpi]
  · simp [he, Scalar.select]

/-- The dispatch mask of the block, in bytes. -/
theorem sent_apply (e c : Fin 64) (j : Fin 512) :
    k0_pay12 (k0_pay6 x w) (iota .tc S64x512 32 [0] iota_S64x512_d0_w32) (k0_pay7 x w) (k0_pay8 x w) (k0_pay10 x w n)
      o (ix3 e c j)
      = BitVec.setWidth 8 (BitVec.ofBool (decide (weight G (b + j.val) e c ≠ 0))) := by
  pointwise [k0_pay12]
  rw [weight_apply G b x w hG n hn hb o ho]

end

/-- The sums of the gates after the block. -/
theorem sums_apply (G : ℕ → Fin 64 → EReal) (b : ℕ) (x : Vec Ideal S512x4096 .f32) (w : Vec Ideal S64x4096 .f32)
    (hG : ∀ (e : Fin 64) (j : Fin 512), k0_pay5 x w (ix2 e j) = G (b + j.val) e) (a : Vec Ideal S64x1 .f32)
    (ha : ∀ e : Fin 64, a (ix2 e 0) = ∑ s ∈ Finset.range b, G s e) (e : Fin 64) :
    k0_pay1 (k0_pay14 (k0_pay5 x w) a) (ix2 e 0) = ∑ s ∈ Finset.range (b + 512), G s e := by
  pointwise [k0_pay1, k0_pay14]
  rw [ha, Finset.sum_range_add, Finset.sum_range (n := 512)]
  simp only [hG]

/-- The loss, from the counts and the sums of gates. -/
theorem loss_apply (n a : Vec Ideal S64x1 .f32) :
    k0_pay2 n a (ix2 0 0) = ((64 / 4096 ^ 2 : ℝ) : EReal) * ∑ e : Fin 64, n (ix2 e 0) * a (ix2 e 0) := by
  pointwise [k0_pay2]
  rw [scale_eq]
  simp

end Cert.Top1.Block

end
-- ==== Proof.Top1.Carry.lean ====
/- What the kernel's grid points leave: after each block of 512 tokens the two carried columns hold, for every expert, how
   many of the tokens so far pick it and the sum of its gates over them; and each point's output blocks hold the combine
   weights and the dispatch mask of its own tokens, and the loss of the tokens so far. -/
module

public import proofs.«01_k».proof.Proof.Top1.Block
public import Idealize.ShloMosaic.Lib.Pipeline.ReadBack

@[expose] public section

set_option maxRecDepth 16384

noncomputable section

open Idealize.ShloMosaic Idealize.ShloMosaic.TcCoe Idealize.SL.Sem

namespace Cert.Top1.Carry

open Cert.KernelIdeal Cert.KernelIdeal.Gen Cert.Top1.Block

variable (m : (ℓ : Loc nD τ sig) → Buf (Elt Ideal) ℓ) (c : Dev nD)

/-- The table of gates of the kernel's two argument arrays. -/
def G : ℕ → Fin 64 → EReal :=
  table (fun t k => m ((c.tc : Thread nD τ).loc main_arg0) (ix2 t k))
    (fun e k => m ((c.tc : Thread nD τ).loc main_arg1) (ix2 e k))

/-- Where each window's block lies at each grid point. -/
theorem idx : ∀ t : Fin cfg0.N, win0_0.index t = ![t.val, 0] ∧ win0_1.index t = ![0, 0]
    ∧ win0_2.index t = ![0, 0, t.val] ∧ win0_3.index t = ![0, 0, t.val] :=
  (by decide +kernel : ∀ t : Fin grid0.N, _)

/-- Point `t`'s block of tokens, at a token and a feature. -/
theorem tokens_apply (t : Fin cfg0.N) (j : Fin 512) (k : Fin 4096) (h : 512 * t.val + j.val < 4096) :
    iblk m c 0 t (ix2 j k) = m ((c.tc : Thread nD τ).loc main_arg0) (ix2 ⟨512 * t.val + j.val, h⟩ k) := by
  blk_ext [iblk, V, idx t]

/-- Every point's block of expert weights is the whole array. -/
theorem experts_apply (t : Fin cfg0.N) (e : Fin 64) (k : Fin 4096) :
    iblk m c 1 t (ix2 e k) = m ((c.tc : Thread nD τ).loc main_arg1) (ix2 e k) := by
  blk_ext [iblk, V, idx t]

/-- Point `t`'s gates are the table's rows from token `512 t` on. -/
theorem gates_block (t : Fin cfg0.N) (e : Fin 64) (j : Fin 512) :
    k0_pay5 (iblk m c 0 t) (iblk m c 1 t) (ix2 e j) = G m c (512 * t.val + j.val) e := by
  have ht : t.val < 8 := t.isLt
  have hj := j.isLt
  have h : 512 * t.val + j.val < 4096 := by omega
  rw [gates_apply, G, table, dif_pos h]
  simp only [tokens_apply m c t j _ h, experts_apply m c t]

/-- After point `n` the carried columns hold the counts and the sums of gates of the first `512 (n + 1)` tokens. -/
theorem carried (n : ℕ) (hn : n < cfg0.N) :
    (∀ e : Fin 64, (outsAt0 m c n hn).2.2.2.1 (ix2 e 0) = ((load (G m c) e (512 * n + 512) : ℕ) : EReal))
      ∧ ∀ e : Fin 64, (outsAt0 m c n hn).2.2.2.2 (ix2 e 0) = ∑ s ∈ Finset.range (512 * n + 512), G m c s e := by
  induction n with
  | zero =>
    rw [outsAt0_A m c ⟨0, hn⟩ (Nat.zero_mod 8)]
    constructor
    · intro e
      frame_out
      exact counts_apply (G m c) (512 * 0) _ _ (gates_block m c ⟨0, hn⟩) (k0_pay3 (F := Ideal)) (fun e => by pointwise [k0_pay3]; simp [load]) e
    · intro e
      frame_out
      exact sums_apply (G m c) (512 * 0) _ _ (gates_block m c ⟨0, hn⟩) (k0_pay4 (F := Ideal)) (fun e => by pointwise [k0_pay4]; simp) e
  | succ n ih =>
    have h8 : n + 1 < 8 := hn
    rw [outsAt0_B m c ⟨n + 1, hn⟩ (by show ¬ (n + 1) % 8 = 0; omega)]
    obtain ⟨hc, hs⟩ := ih (Nat.lt_of_succ_lt hn)
    constructor
    · intro e
      frame_out
      rw [read_unread_whole]
      exact counts_apply (G m c) (512 * (n + 1)) _ _ (gates_block m c ⟨n + 1, hn⟩) _ hc e
    · intro e
      frame_out
      rw [read_unread_whole]
      exact sums_apply (G m c) (512 * (n + 1)) _ _ (gates_block m c ⟨n + 1, hn⟩) _ hs e

/-- Point `t`'s block of combine weights. -/
theorem weights_block (t : Fin cfg0.N) (e s : Fin 64) (j : Fin 512) :
    (outsAt0 m c t.val t.isLt).1 (ix3 e s j) = weight (G m c) (512 * t.val + j.val) e s := by
  have ht : t.val < 8 := t.isLt
  by_cases h0 : t.val % 8 = 0
  · rw [outsAt0_A m c t h0]
    frame_out
    refine weight_apply (G m c) (512 * t.val) _ _ (gates_block m c t) (k0_pay3 (F := Ideal)) (fun e => ?_) (by omega) _ Ideal.ofBits_one_f32 e s j
    rw [show t.val = 0 by omega]
    pointwise [k0_pay3]
    simp [load]
  · rw [outsAt0_B m c t h0]
    frame_out
    rw [read_unread_whole]
    refine weight_apply (G m c) (512 * t.val) _ _ (gates_block m c t) _ (fun e => ?_) (by omega) _ Ideal.ofBits_one_f32 e s j
    rw [(carried m c (t.val - 1) _).1, show 512 * (t.val - 1) + 512 = 512 * t.val by omega]

/-- Point `t`'s block of the dispatch mask, in bytes. -/
theorem sent_block (t : Fin cfg0.N) (e s : Fin 64) (j : Fin 512) :
    (outsAt0 m c t.val t.isLt).2.1 (ix3 e s j)
      = BitVec.setWidth 8 (BitVec.ofBool (decide (weight (G m c) (512 * t.val + j.val) e s ≠ 0))) := by
  have ht : t.val < 8 := t.isLt
  by_cases h0 : t.val % 8 = 0
  · rw [outsAt0_A m c t h0]
    frame_out
    refine sent_apply (G m c) (512 * t.val) _ _ (gates_block m c t) (k0_pay3 (F := Ideal)) (fun e => ?_) (by omega) _ Ideal.ofBits_one_f32 e s j
    rw [show t.val = 0 by omega]
    pointwise [k0_pay3]
    simp [load]
  · rw [outsAt0_B m c t h0]
    frame_out
    rw [read_unread_whole]
    refine sent_apply (G m c) (512 * t.val) _ _ (gates_block m c t) _ (fun e => ?_) (by omega) _ Ideal.ofBits_one_f32 e s j
    rw [(carried m c (t.val - 1) _).1, show 512 * (t.val - 1) + 512 = 512 * t.val by omega]

/-- The last point's block of the loss. -/
theorem loss_block (h : 7 < cfg0.N) : (outsAt0 m c 7 h).2.2.1 (ix2 0 0) = balance (G m c) := by
  have hl : (outsAt0 m c 7 h).2.2.1 = k0_pay2 (outsAt0 m c 7 h).2.2.2.1 (outsAt0 m c 7 h).2.2.2.2 := by
    rw [outsAt0_B m c ⟨7, h⟩ (by show ¬ 7 % 8 = 0; decide)]
    frame_out
  obtain ⟨hc, hs⟩ := carried m c 7 h
  rw [hl, loss_apply, balance]
  refine congrArg _ (Finset.sum_congr rfl fun e _ => ?_)
  rw [hc, hs, ← Finset.sum_range (n := 4096) (fun s => G m c s e)]

end Cert.Top1.Carry

end
-- ==== Proof.Top1.Arrays.lean ====
/- The kernel's three output arrays after its last grid point: the combine weights and the dispatch mask with the token as
   their last coordinate, and the loss in a one by one array. -/
module

public import proofs.«01_k».proof.Proof.Top1.Carry

@[expose] public section

set_option maxRecDepth 16384

noncomputable section

open Idealize.ShloMosaic Idealize.ShloMosaic.TcCoe Idealize.SL.Sem

namespace Cert.Top1.Arrays

open Cert.KernelIdeal Cert.KernelIdeal.Gen Cert.Top1.Carry

variable (m : (ℓ : Loc nD τ sig) → Buf (Elt Ideal) ℓ) (c : Dev nD)

/-- The combine weights, by expert, place and token. -/
def weightsT : FVec Ideal S64x64x4096 .f32 := fun i => weight (G m c) (i 2).val (i 0) (i 1)

/-- The dispatch mask in bytes, by expert, place and token: one where the weight is not zero. -/
def sentT : IVec S64x64x4096 8 :=
  fun i => BitVec.setWidth 8 (BitVec.ofBool (decide (weight (G m c) (i 2).val (i 0) (i 1) ≠ 0)))

/-- The first output array ends at the combine weights. -/
theorem weights_final : (dats m 0 c).arrAt 2 (cfgs 0).N = weightsT m c := by
  refine (dats m 0 c).arrAt_eq_of_covers 2 _ (by decide +kernel) fun t hf y => ?_
  blk_simp
  rw [after0_2]
  idx_vars y
  have ht : t.val < 8 := t.isLt
  have h : 512 * t.val + y2.val < 4096 := by have := y2.isLt; omega
  refine (weights_block m c t _ _ _).trans ?_
  show weightsT m c (ix3 y0 y1 ⟨512 * t.val + y2.val, h⟩) = _
  blk_ext [idx t]

/-- The second output array ends at the dispatch mask. -/
theorem sent_final : (dats m 0 c).arrAt 3 (cfgs 0).N = sentT m c := by
  refine (dats m 0 c).arrAt_eq_of_covers 3 _ (by decide +kernel) fun t hf y => ?_
  blk_simp
  rw [after0_3]
  idx_vars y
  have ht : t.val < 8 := t.isLt
  have h : 512 * t.val + y2.val < 4096 := by have := y2.isLt; omega
  refine (sent_block m c t _ _ _).trans ?_
  show sentT m c (ix3 y0 y1 ⟨512 * t.val + y2.val, h⟩) = _
  blk_ext [idx t]

/-- The third output array ends at the loss. -/
theorem loss_final : (dats m 0 c).arrAt 4 (cfgs 0).N = (fun _ => balance (G m c) : FVec Ideal S1x1 .f32) := by
  refine (dats m 0 c).arrAt_eq_of_after_last 4 t0_7 (by decide +kernel) _ fun j => ?_
  blk_simp
  rw [after0_4]
  idx_vars j
  refine Eq.trans ?_ (loss_block m c t0_7.isLt)
  blk_ext

end Cert.Top1.Arrays

end
-- ==== Proof.Top1.KernelRun.lean ====
/- The kernel program's run: every execution ends with its three results at what the host operations after the grid make of
   the three output arrays, and its arguments unchanged. -/
module

public import proofs.«01_k».proof.Proof.Top1.Arrays
public import Idealize.ShloMosaic.Lib.Claim

@[expose] public section

set_option maxRecDepth 16384

noncomputable section

open Idealize.ShloMosaic Idealize.ShloMosaic.TcCoe Idealize.SL.Sem

namespace Cert.Top1.KernelRun

open Cert.KernelIdeal Cert.KernelIdeal.Gen Cert.Top1.Carry Cert.Top1.Arrays

variable (m : (ℓ : Loc nD τ sig) → Buf (Elt Ideal) ℓ) (ρ : Dev nD → PrngReg) (c : Dev nD)

/-- The loss as the kernel returns it: the only element of its one by one array. -/
def loss : FVec Ideal S_ .f32 := shapeCast S_ (fun _ => balance (G m c) : FVec Ideal S1x1 .f32) shapeCasts_S1x1_S_

/-- The combine weights as the kernel returns them: the token moved to the front. -/
def weights : FVec Ideal S4096x64x64 .f32 :=
  transpose S4096x64x64 [2, 0, 1] (weightsT m c) transposes_S64x64x4096_S4096x64x64_2_0_1

/-- The dispatch mask as the kernel returns it: the bytes compared with zero, the token moved to the front. -/
def sends : IVec S4096x64x64 1 :=
  transpose S4096x64x64 [2, 0, 1]
    (cmpi .ne (sentT m c) (broadcastInDim S64x64x4096 ![] bcast_S_S64x64x4096 (constantI S_ 8 0#8)))
    transposes_S64x64x4096_S4096x64x64_2_0_1

/-- What each buffer holds when the grid is done: the windows' arrays at what the grid points wrote, every other one as
    before. -/
def left : Valuation τ sig (Elt Ideal) :=
  Pipeline.withArrays (cfgs 0).spec c (V0 m c) fun w => (dats m 0 c).arrAt w (cfgs 0).N

/-- When the grid is done the first output array holds the combine weights. -/
theorem left_weights : left m c (Proc.devRef .tc main_call0_v0_0) = weightsT m c :=
  (Pipeline.withArrays_arr (cfgs 0).spec launch0.win.arr_inj c (V0 m c) (fun w => (dats m 0 c).arrAt w (cfgs 0).N) 2).trans (weights_final m c)

/-- When the grid is done the second output array holds the dispatch mask in bytes. -/
theorem left_sent : left m c (Proc.devRef .tc main_call0_v0_1) = sentT m c :=
  (Pipeline.withArrays_arr (cfgs 0).spec launch0.win.arr_inj c (V0 m c) (fun w => (dats m 0 c).arrAt w (cfgs 0).N) 3).trans (sent_final m c)

/-- When the grid is done the third output array holds the loss. -/
theorem left_loss : left m c (Proc.devRef .tc main_call0_v0_2) = (fun _ => balance (G m c) : FVec Ideal S1x1 .f32) :=
  (Pipeline.withArrays_arr (cfgs 0).spec launch0.win.arr_inj c (V0 m c) (fun w => (dats m 0 c).arrAt w (cfgs 0).N) 4).trans (loss_final m c)

/-- The host operations leave the loss in the first result. -/
theorem tail_loss : StableHlo.after (hostOps1 (F := Ideal)) (left m c) (Proc.devRef .tc main_v0_0) = loss m c := by
  have h := left_loss m c
  generalize left m c = V at h ⊢
  after_results
  simp only [StableHlo.TRef.of]
  rw [h]
  rfl

/-- The host operations leave the combine weights in the second result. -/
theorem tail_weights : StableHlo.after (hostOps1 (F := Ideal)) (left m c) (Proc.devRef .tc main_v0_1) = weights m c := by
  have h := left_weights m c
  generalize left m c = V at h ⊢
  after_results
  simp only [StableHlo.TRef.ofBuf_toBuf, StableHlo.TRef.ofBuf, StableHlo.TRef.toBuf, cast_eq, StableHlo.TRef.of]
  rw [h]
  rfl

/-- The host operations leave the dispatch mask in the third result. -/
theorem tail_sends : StableHlo.after (hostOps1 (F := Ideal)) (left m c) (Proc.devRef .tc main_v0_2) = sends m c := by
  have h := left_sent m c
  generalize left m c = V at h ⊢
  after_results
  simp only [StableHlo.TRef.ofBuf_toBuf, StableHlo.TRef.ofBuf, StableHlo.TRef.toBuf, cast_eq, StableHlo.TRef.of]
  rw [h]
  rfl

/-- From any memory with zero counters, every execution of the kernel ends with its results at the loss, the combine
    weights and the dispatch mask, and with the arguments as they were. -/
theorem run : θ_run (defs (F := Ideal)) (onTc (τ := τ) (main (F := Ideal))) ⟨m, fun _ => 0, ρ⟩ (fun r => ∀ c : Dev nD,
      r.2.mem ((c.tc : Thread nD τ).loc main_v0_0) = loss m c
      ∧ r.2.mem ((c.tc : Thread nD τ).loc main_v0_1) = weights m c
      ∧ r.2.mem ((c.tc : Thread nD τ).loc main_v0_2) = sends m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from run_main m ρ
  · exact tail_loss m c
  · exact tail_weights m c
  · exact tail_sends m c

end Cert.Top1.KernelRun

end
-- ==== Proof.Top1.RefTerms.lean ====
/- The reference program's results, as functions of its two argument arrays: one definition per stage of the
   router (softmax, arg-max, one-hot mask, running count, capacity, combine weights, load-balancing loss), each the
   host operations of that stage composed over the stages before it. Nothing is proved here: `RefRun` shows that
   the reference's result buffers end at these terms, `RefValue` reads the terms at an index. -/
module

public import proofs.«01_k».proof.Proof.Gen.ReferenceIdeal
public import Idealize.ShloMosaic.PureOps.Ideal.Laws

@[expose] public section

set_option maxRecDepth 16384

noncomputable section

open Idealize.ShloMosaic

namespace Cert.Top1.Ref

open Cert.ReferenceIdeal Cert.ReferenceIdeal.Gen

/-- The logits: tokens times the transposed expert weights. -/
def logits (X : FVec Ideal S4096x4096 .f32) (W : FVec Ideal S64x4096 .f32) : FVec Ideal S4096x64 .f32 :=
  Host.dotGeneral dot_S4096x4096_S4096x64_S4096x64_1_0_0_1_n_n none X
    (transpose S4096x64 [1, 0] W transposes_S64x4096_S4096x64_1_0)

/-- A token's largest logit, spread over the experts. -/
def rowMax (L : FVec Ideal S4096x64 .f32) : FVec Ideal S4096x64 .f32 :=
  broadcastInDim S4096x64 ![0, 1] bcast_S4096x1_S4096x64_0_1
    (broadcastInDim S4096x1 ![0] bcast_S4096_S4096x1_0
      (maximumf (broadcastInDim S4096 ![] bcast_S_S4096 (constant (F := Ideal) S_ .f32 0xFF800000#32))
        (Host.reduce FloatOps.maximumf L (constant (F := Ideal) S_ .f32 0xFF800000#32) reducesTo_S4096x64_S4096_d1 h_S_)))

/-- The exponentials of the logits less the row's largest. -/
def expo (L : FVec Ideal S4096x64 .f32) : FVec Ideal S4096x64 .f32 := Host.exp (subf L (rowMax L))

/-- The gates: the exponentials over their row's sum. -/
def gatesOf (L : FVec Ideal S4096x64 .f32) : FVec Ideal S4096x64 .f32 :=
  Host.divf (expo L)
    (broadcastInDim S4096x64 ![0, 1] bcast_S4096x1_S4096x64_0_1
      (broadcastInDim S4096x1 ![0] bcast_S4096_S4096x1_0
        (Host.reduceAdd (expo L) (constant (F := Ideal) S_ .f32 0x00000000#32) reducesTo_S4096x64_S4096_d1 h_S_)))

/-- The gates of the two argument arrays. -/
def gates (X : FVec Ideal S4096x4096 .f32) (W : FVec Ideal S64x4096 .f32) : FVec Ideal S4096x64 .f32 :=
  gatesOf (logits X W)

/-- Each token's arg-max over the experts. -/
def best (g : FVec Ideal S4096x64 .f32) : IVec S4096 32 := fun j =>
  (Host.argReduce reducer_argmax_f32_i32 g (iotaInDim S4096x64 32 1)
    (constant (F := Ideal) S_ .f32 0xFF800000#32) (constantI S_ 32 0#32) reducesTo_S4096x64_S4096_d1 h_S_ j).2

/-- Where a token's column equals its index word: the one-bit comparison under a one-hot row. -/
def eqIota (i : IVec S4096 32) : IVec S4096x64 1 :=
  cmpi .eq
    (broadcastInDim S4096x64 ![0, 1] bcast_S4096x1_S4096x64_0_1 (broadcastInDim S4096x1 ![0] bcast_S4096_S4096x1_0 i))
    (broadcastInDim S4096x64 ![0, 1] bcast_S1x64_S4096x64_0_1 (iotaInDim S1x64 32 1))

/-- The one-hot mask of the chosen experts, as integers. -/
def hot (i : IVec S4096 32) : IVec S4096x64 32 := extui 32 (eqIota i) natLt_1_32

/-- The gate of each token's chosen expert. -/
def gate1 (g : FVec Ideal S4096x64 .f32) (k : IVec S4096x64 32) : FVec Ideal S4096 .f32 :=
  Host.reduceAdd (mulf g (sitofp .f32 k)) (constant (F := Ideal) S_ .f32 0x00000000#32)
    reducesTo_S4096x64_S4096_d1 h_S_

/-- The running count of the mask down the tokens. -/
def running (k : IVec S4096x64 32) : IVec S4096x64 32 :=
  Host.reduceWindow IntOp.addi ![4096, 1] ![1, 1] ![4095, 0] ![0, 0] k
    (broadcastInDim S_ ![] bcast_S_S_ (constantI S_ 32 0#32))
    reduceWindows_S4096x64_S4096x64_w4096s1p4095_0_w1s1p0_0 h_S_

/-- The places: the running count less one. -/
def places (k : IVec S4096x64 32) : IVec S4096x64 32 :=
  subi (running k) (broadcastInDim S4096x64 ![] bcast_S_S4096x64 (constantI S_ 32 1#32))

/-- The mask with the tokens past the capacity dropped. -/
def kept (k : IVec S4096x64 32) : IVec S4096x64 32 :=
  muli k (extui 32
    (cmpi .slt (places k) (broadcastInDim S4096x64 ![] bcast_S_S4096x64 (constantI S_ 32 64#32))) natLt_1_32)

/-- Each token's place within its expert (0 for a dropped token). -/
def place1 (k : IVec S4096x64 32) : IVec S4096 32 :=
  Host.reduce IntOp.addi (muli (places k) (kept k)) (constantI S_ 32 0#32) reducesTo_S4096x64_S4096_d1 h_S_

/-- The combine weights, tokens by experts by slots. -/
def combine (g : FVec Ideal S4096x64 .f32) (k : IVec S4096x64 32) : FVec Ideal S4096x64x64 .f32 :=
  mulf
    (broadcastInDim S4096x64x64 ![0, 1, 2] bcast_S4096x64x1_S4096x64x64_0_1_2
      (broadcastInDim S4096x64x1 ![0, 1] bcast_S4096x64_S4096x64x1_0_1
        (mulf
          (broadcastInDim S4096x64 ![0, 1] bcast_S4096x1_S4096x64_0_1
            (broadcastInDim S4096x1 ![0] bcast_S4096_S4096x1_0 (gate1 g k)))
          (sitofp .f32 (kept k)))))
    (broadcastInDim S4096x64x64 ![0, 1, 2] bcast_S4096x1x64_S4096x64x64_0_1_2
      (broadcastInDim S4096x1x64 ![0, 2] bcast_S4096x64_S4096x1x64_0_2 (uitofp .f32 (eqIota (place1 k)))))

/-- Where the combine weights are not zero. -/
def dispatch (v : FVec Ideal S4096x64x64 .f32) : IVec S4096x64x64 1 :=
  cmpf .une v (broadcastInDim S4096x64x64 ![] bcast_S_S4096x64x64 (constant (F := Ideal) S_ .f32 0x00000000#32))

/-- A column sum over the tokens, over their number. -/
def meanOf (v : FVec Ideal S4096x64 .f32) : FVec Ideal S64 .f32 :=
  Host.divf (Host.reduceAdd v (constant (F := Ideal) S_ .f32 0x00000000#32) reducesTo_S4096x64_S64_d0 h_S_)
    (broadcastInDim S64 ![] bcast_S_S64 (constant (F := Ideal) S_ .f32 0x45800000#32))

/-- The load-balancing loss. -/
def aux (g : FVec Ideal S4096x64 .f32) (k : IVec S4096x64 32) : FVec Ideal S_ .f32 :=
  mulf (mulf (Host.divf
      (Host.reduceAdd (mulf (meanOf g) (meanOf (sitofp .f32 k))) (constant (F := Ideal) S_ .f32 0x00000000#32)
        reducesTo_S64_S_d0 h_S_)
      (constant (F := Ideal) S_ .f32 0x42800000#32)) (constant (F := Ideal) S_ .f32 0x42800000#32))
    (constant (F := Ideal) S_ .f32 0x42800000#32)

/-- The mask of the two argument arrays. -/
def mask (X : FVec Ideal S4096x4096 .f32) (W : FVec Ideal S64x4096 .f32) : IVec S4096x64 32 := hot (best (gates X W))

/-- Result 1, the loss, of the two argument arrays. -/
def loss (X : FVec Ideal S4096x4096 .f32) (W : FVec Ideal S64x4096 .f32) : FVec Ideal S_ .f32 :=
  aux (gates X W) (mask X W)

/-- Result 2, the combine weights, of the two argument arrays. -/
def weights (X : FVec Ideal S4096x4096 .f32) (W : FVec Ideal S64x4096 .f32) : FVec Ideal S4096x64x64 .f32 :=
  combine (gates X W) (mask X W)

/-- Result 3, the dispatch mask, of the two argument arrays. -/
def sends (X : FVec Ideal S4096x4096 .f32) (W : FVec Ideal S64x4096 .f32) : IVec S4096x64x64 1 :=
  dispatch (weights X W)

end Cert.Top1.Ref

end
-- ==== Proof.Top1.RefRun.lean ====
/- The reference program's run: every execution ends with its three results at the stage terms of `RefTerms` and its
   arguments unchanged. -/
module

public import proofs.«01_k».proof.Proof.Top1.RefTerms
public import Idealize.ShloMosaic.Lib.Claim

@[expose] public section

set_option maxRecDepth 16384

noncomputable section

open Idealize.ShloMosaic Idealize.ShloMosaic.TcCoe Idealize.SL.Sem

namespace Cert.Top1.Ref

open Cert.ReferenceIdeal Cert.ReferenceIdeal.Gen

variable (m : (ℓ : Loc nD τ sig) → Buf (Elt Ideal) ℓ) (ρ : Dev nD → PrngReg)

/-- From any memory with zero counters, every execution of the reference ends with its results at the loss, the
    combine weights and the dispatch mask of its two arguments, and with the arguments as they were. -/
theorem run : θ_run (defs (F := Ideal)) (onTc (τ := τ) (main (F := Ideal))) ⟨m, fun _ => 0, ρ⟩ (fun r => ∀ c : Dev nD,
      r.2.mem ((c.tc : Thread nD τ).loc main_v32)
        = loss (m ((c.tc : Thread nD τ).loc main_arg0)) (m ((c.tc : Thread nD τ).loc main_arg1))
      ∧ r.2.mem ((c.tc : Thread nD τ).loc main_v48)
        = weights (m ((c.tc : Thread nD τ).loc main_arg0)) (m ((c.tc : Thread nD τ).loc main_arg1))
      ∧ r.2.mem ((c.tc : Thread nD τ).loc main_v51)
        = sends (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  · simp only [StableHlo.TRef.ofBuf_toBuf, StableHlo.TRef.ofBuf, StableHlo.TRef.toBuf, cast_eq]
    delta loss aux mask meanOf hot eqIota best gates gatesOf expo rowMax logits
    with_reducible rfl
  · simp only [StableHlo.TRef.ofBuf_toBuf, StableHlo.TRef.ofBuf, StableHlo.TRef.toBuf, cast_eq]
    delta weights combine mask gate1 place1 kept places running hot eqIota best gates gatesOf expo rowMax logits
    with_reducible rfl
  · simp only [StableHlo.TRef.ofBuf_toBuf, StableHlo.TRef.ofBuf, StableHlo.TRef.toBuf, cast_eq]
    delta sends dispatch weights combine mask gate1 place1 kept places running hot eqIota best gates gatesOf expo rowMax logits
    with_reducible rfl

end Cert.Top1.Ref

end
-- ==== Proof.Top1.RefArgmax.lean ====
/- The reference's arg-max of a token's gates is the expert the specification picks. The host folds (gate, expert) pairs
   with a comparison that keeps the larger gate, and of equal gates the smaller expert; whatever the order of the fold,
   its result is one of the pairs and is beaten by none, and only one pair has both properties. -/
module

public import proofs.«01_k».proof.Proof.Top1.RefTerms
public import proofs.«01_k».proof.Proof.Top1.Words

@[expose] public section

set_option maxRecDepth 16384

noncomputable section

open Idealize.ShloMosaic

namespace Cert.Top1.Ref

open Cert.ReferenceIdeal Cert.ReferenceIdeal.Gen

/-- Pair `a` is at least as good as pair `b`: its gate is larger, or the gates are equal and its expert no later. -/
def AtLeast (a b : EReal × BitVec 32) : Prop := b.1 < a.1 ∨ (a.1 = b.1 ∧ a.2.toInt ≤ b.2.toInt)

theorem AtLeast.refl (a : EReal × BitVec 32) : AtLeast a a := Or.inr ⟨rfl, le_rfl⟩

theorem AtLeast.trans {a b c : EReal × BitVec 32} (h : AtLeast a b) (h' : AtLeast b c) : AtLeast a c := by
  rcases h with h | ⟨h, k⟩ <;> rcases h' with h' | ⟨h', k'⟩
  · exact Or.inl (h'.trans h)
  · exact Or.inl (h' ▸ h)
  · exact Or.inl (h ▸ h')
  · exact Or.inr ⟨h.trans h', k.trans k'⟩

/-- The comparison keeps one of its two pairs, the one that is at least as good as the other. -/
theorem reducer_keeps (a b : EReal × BitVec 32) :
    (reducer_argmax_f32_i32 (F := Ideal) a b = a ∧ AtLeast a b)
      ∨ (reducer_argmax_f32_i32 (F := Ideal) a b = b ∧ AtLeast b a) := by
  obtain ⟨x, i⟩ := a
  obtain ⟨y, j⟩ := b
  have hr : reducer_argmax_f32_i32 (F := Ideal) (x, i) (y, j)
      = (if y < x then x else y, if y < x ∨ (x = y ∧ i.toInt < j.toInt) then i else j) := by
    show (Scalar.select (IntOp.ori (Ideal.cmp .ogt x y) (Ideal.cmp .une x x)) x y,
      Scalar.select (IntOp.ori (IntOp.ori (Ideal.cmp .ogt x y) (Ideal.cmp .une x x))
        (IntOp.andi (Ideal.cmp .oeq x y) (IntOp.cmpi .slt i j))) i j) = _
    by_cases h1 : y < x <;> by_cases h2 : x = y <;> by_cases h3 : i.toInt < j.toInt <;>
      simp [Scalar.select, IntOp.ori, IntOp.andi, IntOp.cmpi, Ideal.cmp, BitVec.slt, h1, h2, h3]
  rw [hr]
  rcases lt_trichotomy y x with h | h | h
  · exact Or.inl ⟨by simp [h], Or.inl h⟩
  · subst h
    by_cases h3 : i.toInt < j.toInt
    · exact Or.inl ⟨by simp [h3], Or.inr ⟨rfl, h3.le⟩⟩
    · exact Or.inr ⟨by simp [h3], Or.inr ⟨rfl, not_lt.1 h3⟩⟩
  · exact Or.inr ⟨by simp [h.not_gt, h.ne], Or.inl h⟩

/-- A fold of the comparison ends at one of the pairs folded, or at the one it started from, and that pair is at least
    as good as every one of them. -/
theorem foldl_keeps (l : List (EReal × BitVec 32)) (a : EReal × BitVec 32) :
    (l.foldl (reducer_argmax_f32_i32 (F := Ideal)) a = a ∨ l.foldl (reducer_argmax_f32_i32 (F := Ideal)) a ∈ l)
      ∧ AtLeast (l.foldl (reducer_argmax_f32_i32 (F := Ideal)) a) a
      ∧ ∀ p ∈ l, AtLeast (l.foldl (reducer_argmax_f32_i32 (F := Ideal)) a) p := by
  induction l generalizing a with
  | nil => exact ⟨Or.inl rfl, AtLeast.refl a, fun p hp => absurd hp List.not_mem_nil⟩
  | cons b l ih =>
    rw [List.foldl_cons]
    obtain ⟨h1, h2, h3⟩ := ih (reducer_argmax_f32_i32 (F := Ideal) a b)
    rcases reducer_keeps a b with ⟨he, hk⟩ | ⟨he, hk⟩
    · rw [he] at h1 h2 h3 ⊢
      refine ⟨h1.imp_right (List.mem_cons_of_mem b), h2, fun p hp => ?_⟩
      rcases List.mem_cons.1 hp with rfl | hp
      · exact h2.trans hk
      · exact h3 p hp
    · rw [he] at h1 h2 h3 ⊢
      refine ⟨Or.inr ?_, h2.trans hk, fun p hp => ?_⟩
      · rcases h1 with h1 | h1
        · rw [h1]; exact List.mem_cons_self
        · exact List.mem_cons_of_mem b h1
      · rcases List.mem_cons.1 hp with rfl | hp
        · exact h2
        · exact h3 p hp

/-- The pairs that the host folds for token `t`: each expert with its gate. -/
theorem mem_fiber (g : FVec Ideal S4096x64 .f32) (t : Fin 4096) (p : EReal × BitVec 32) :
    p ∈ Host.argReduceFiber g (iotaInDim S4096x64 32 1) reducesTo_S4096x64_S4096_d1 (ix1 t)
      ↔ ∃ e : Fin 64, p = (g (ix2 t e), BitVec.ofNat 32 e.val) := by
  unfold Host.argReduceFiber
  simp only [List.mem_map, List.mem_filter, List.mem_finRange, true_and, decide_eq_true_eq]
  constructor
  · rintro ⟨n, hn, rfl⟩
    generalize S4096x64.rowMajor.symm n = i at hn ⊢
    idx_vars i
    have h0 : i0 = t := Fin.ext ((Shape.ReducesTo.drop_apply_val_of_eq reducesTo_S4096x64_S4096_d1 (ix2 i0 i1) 0 0).symm.trans
      (congrArg (fun k : S4096.Idx => (k 0).val) hn))
    exact ⟨i1, h0 ▸ rfl⟩
  · rintro ⟨e, rfl⟩
    refine ⟨S4096x64.rowMajor (ix2 t e), ?_, ?_⟩
    · rw [Equiv.symm_apply_apply]
      exact funext fun b => match b with
        | ⟨0, _⟩ => Fin.ext (Shape.ReducesTo.drop_apply_val_of_eq reducesTo_S4096x64_S4096_d1 (ix2 t e) 0 0)
    · rw [Equiv.symm_apply_apply]; rfl

/-- The reference's arg-max of token `t`'s gates, as a word, is the expert the specification picks. -/
theorem best_apply (g : FVec Ideal S4096x64 .f32) (t : Fin 4096) :
    best g (ix1 t) = BitVec.ofNat 32 (pick fun e => g (ix2 t e)).val := by
  unfold best
  rw [Ideal.argReduce_eq_reduce2, Host.reduce2_eq_foldl_fiber]
  show ((Host.argReduceFiber g (iotaInDim S4096x64 32 1) reducesTo_S4096x64_S4096_d1 (ix1 t)).foldl
    (reducer_argmax_f32_i32 (F := Ideal)) (Ideal.ofBits .f32 4286578688#32, 0#32)).2 = _
  rw [ofBits_bot]
  obtain ⟨h1, h2, h3⟩ := foldl_keeps
    (Host.argReduceFiber g (iotaInDim S4096x64 32 1) reducesTo_S4096x64_S4096_d1 (ix1 t)) (⊥, 0#32)
  revert h1 h2 h3
  generalize (Host.argReduceFiber g (iotaInDim S4096x64 32 1) reducesTo_S4096x64_S4096_d1 (ix1 t)).foldl
    (reducer_argmax_f32_i32 (F := Ideal)) (⊥, 0#32) = r
  intro h1 h2 h3
  have hb : ∀ e : Fin 64, AtLeast r (g (ix2 t e), BitVec.ofNat 32 e.val) := fun e =>
    h3 _ ((mem_fiber g t _).2 ⟨e, rfl⟩)
  -- the result is a pair of the fiber: were it the pair the fold starts from, it would be expert 0's own
  have hm : ∃ e : Fin 64, r = (g (ix2 t e), BitVec.ofNat 32 e.val) := by
    rcases h1 with h1 | h1
    · refine ⟨0, ?_⟩
      rcases hb 0 with h | ⟨h, -⟩
      · rw [h1] at h; exact absurd h not_lt_bot
      · rw [h1] at h ⊢; exact Prod.ext h rfl
    · exact (mem_fiber g t r).1 h1
  obtain ⟨e, rfl⟩ := hm
  refine congrArg (fun i : Fin 64 => BitVec.ofNat 32 i.val) (eq_pick (fun e => g (ix2 t e)) e (fun e' => ?_) fun e' he => ?_)
  · rcases hb e' with h | ⟨h, -⟩
    · exact h.le
    · exact h.ge
  · rcases hb e' with h | ⟨-, h⟩
    · exact absurd he h.ne
    · have h' : (BitVec.ofNat 32 e.val).toInt ≤ (BitVec.ofNat 32 e'.val).toInt := h
      rw [toInt_ofNat (by omega), toInt_ofNat (by omega)] at h'
      exact Fin.le_def.2 (by omega)

end Cert.Top1.Ref

end
-- ==== Proof.Top1.RefCount.lean ====
/- The reference's running count down the tokens, read at a token and an expert: a window as long as the column, padded
   in front by one entry less, sums the column's entries up to the token. -/
module

public import proofs.«01_k».proof.Proof.Top1.RefTerms
public import proofs.«01_k».proof.Proof.Top1.Words
public import Idealize.ShloMosaic.Lib.Routing.Ops

@[expose] public section

set_option maxRecDepth 16384

noncomputable section

open Idealize.ShloMosaic

namespace Cert.Top1.Ref

open Cert.ReferenceIdeal Cert.ReferenceIdeal.Gen

/-- The window: all the tokens of one expert. -/
abbrev win : Shape := ⟨2, ![4096, 1]⟩

/-- The window has 4096 positions. -/
theorem numel_win : win.numel = 4096 := by
  simp [Shape.numel, Fin.prod_univ_succ]

/-- Position `n` of the window is its row `n`. -/
theorem symm_win (n : Fin win.numel) : win.rowMajor.symm n = ix2 (n.cast numel_win) (0 : Fin 1) :=
  (win.rowMajor.symm_apply_eq).2 (Fin.ext (by
    rw [Shape.rowMajor_val_two]
    show n.val = n.val * 1 + 0
    omega))

/-- Where the mask holds the word of `f i` at token `i` of expert `e`, the running count at token `t` is the word of
    `f 0 + … + f t`. -/
theorem running_apply (k : IVec S4096x64 32) (f : ℕ → ℕ) (e : Fin 64)
    (hk : ∀ i : Fin 4096, k (ix2 i e) = BitVec.ofNat 32 (f i.val)) (t : Fin 4096) :
    running k (ix2 t e) = BitVec.ofNat 32 (∑ s ∈ Finset.range (t.val + 1), f s) := by
  have ht := t.isLt
  unfold running Host.reduceWindow
  refine (Routing.foldl_addi_ofNat _ _ (fun n => if 4095 ≤ t.val + n.val then f (t.val + n.val - 4095) else 0)
    (fun n _ => ?_) _ 0 rfl).trans ?_
  · have hw0 : (win.rowMajor.symm n 0).val = n.val := by rw [symm_win]; rfl
    have hw1 : (win.rowMajor.symm n 1).val = 0 := by rw [symm_win]; rfl
    have hn : n.val < 4096 := (n.cast numel_win).isLt
    dsimp only
    split
    · next hin =>
      have h0 := hin 0
      change 4095 ≤ t.val * 1 + (win.rowMajor.symm n 0).val
        ∧ t.val * 1 + (win.rowMajor.symm n 0).val - 4095 < 4096 at h0
      rw [hw0] at h0
      rw [if_pos (by omega)]
      refine (congrArg k (funext fun a => Fin.ext ?_)).trans (hk ⟨t.val + n.val - 4095, by omega⟩)
      match a with
      | ⟨0, _⟩ =>
        show t.val * 1 + (win.rowMajor.symm n 0).val - 4095 = t.val + n.val - 4095
        rw [hw0, Nat.mul_one]
      | ⟨1, _⟩ =>
        show e.val * 1 + (win.rowMajor.symm n 1).val - 0 = e.val
        rw [hw1]; omega
    · next hin =>
      rw [if_neg fun hle => hin fun a => by
        match a with
        | ⟨0, _⟩ =>
          show 4095 ≤ t.val * 1 + (win.rowMajor.symm n 0).val
            ∧ t.val * 1 + (win.rowMajor.symm n 0).val - 4095 < 4096
          rw [hw0]
          omega
        | ⟨1, _⟩ =>
          show 0 ≤ e.val * 1 + (win.rowMajor.symm n 1).val ∧ e.val * 1 + (win.rowMajor.symm n 1).val - 0 < 64
          rw [hw1]
          have := e.isLt
          omega]
      rfl
  · rw [Nat.zero_add, Routing.map_finRange_val _ (fun w => if 4095 ≤ t.val + w then f (t.val + w - 4095) else 0)]
    refine congrArg (BitVec.ofNat 32) ((congrArg (fun M => ((List.range M).map fun w =>
      if 4095 ≤ t.val + w then f (t.val + w - 4095) else 0).sum) numel_win).trans
        ((Routing.sum_window f 4095 t.val (by omega)).trans ?_))
    rw [← List.sum_toFinset _ List.nodup_range, List.toFinset_range]

end Cert.Top1.Ref

end
-- ==== Proof.Top1.RefValue.lean ====
/- The reference's three results, read at an index: the loss, the combine weights and the dispatch mask of the
   specification, at the table of gates of the two argument arrays. -/
module

public import proofs.«01_k».proof.Proof.Top1.RefArgmax
public import proofs.«01_k».proof.Proof.Top1.RefCount

@[expose] public section

set_option maxRecDepth 16384

noncomputable section

open Idealize.ShloMosaic

namespace Cert.Top1.Ref

open Cert.ReferenceIdeal Cert.ReferenceIdeal.Gen

variable (X : FVec Ideal S4096x4096 .f32) (W : FVec Ideal S64x4096 .f32)

/-- The table of gates of the two argument arrays. -/
def G : ℕ → Fin 64 → EReal := table (fun t k => X (ix2 t k)) (fun e k => W (ix2 e k))

/-- The reference's gates are the table's. -/
theorem gates_apply (t : Fin 4096) (e : Fin 64) : gates X W (ix2 t e) = G X W t.val e := by
  have hl : ∀ x : Fin 64, logits X W (ix2 t x) = ∑ k, X (ix2 t k) * W (ix2 x k) := fun x => by pointwise [logits]
  unfold gates
  pointwise [gatesOf, expo, rowMax]
  simp only [hl, ofBits_bot, max_bot_left]
  rw [G, table, dif_pos t.isLt]
  rfl

/-- A row of the reference's gates is the table's row. -/
theorem gates_row (t : Fin 4096) : (fun e => gates X W (ix2 t e)) = G X W t.val := funext fun e => gates_apply X W t e

/-- The mask is 1 at the picked expert and 0 elsewhere. -/
theorem mask_apply (t : Fin 4096) (e : Fin 64) : mask X W (ix2 t e) = BitVec.ofNat 32 (hit (G X W) e t.val) := by
  unfold mask
  pointwise [hot, eqIota]
  rw [best_apply, gates_row, setWidth_eq]
  refine congrArg (BitVec.ofNat 32) (if_congr ?_ rfl rfl)
  rw [expert_inj, eq_comm]

/-- The gate of the picked expert. -/
theorem gate1_apply (t : Fin 4096) : gate1 (gates X W) (mask X W) (ix1 t) = G X W t.val (pick (G X W t.val)) := by
  pointwise [gate1]
  simp only [gates_apply, mask_apply]
  rw [Finset.sum_eq_single (pick (G X W t.val)) (fun e _ he => ?_) (fun h => absurd (Finset.mem_univ _) h)]
  · rw [hit, if_pos rfl, sitofp_ofNat (by norm_num)]; simp
  · rw [hit, if_neg he, sitofp_ofNat (by norm_num)]; simp

/-- The running count: how many tokens up to and with this one pick the expert. -/
theorem running_mask (t : Fin 4096) (e : Fin 64) :
    running (mask X W) (ix2 t e) = BitVec.ofNat 32 (load (G X W) e (t.val + 1)) :=
  running_apply (mask X W) (hit (G X W) e) e (fun i => mask_apply X W i e) t

/-- The place at the picked expert: how many tokens before this one pick it. -/
theorem places_pick (t : Fin 4096) :
    places (mask X W) (ix2 t (pick (G X W t.val))) = BitVec.ofNat 32 (load (G X W) (pick (G X W t.val)) t.val) := by
  pointwise [places]
  rw [running_mask, load_succ, hit, if_pos rfl]
  unfold IntOp.subi
  rw [BitVec.ofNat_add, BitVec.add_sub_cancel]

/-- The mask with the tokens past the capacity dropped. -/
theorem kept_apply (t : Fin 4096) (e : Fin 64) : kept (mask X W) (ix2 t e)
    = BitVec.ofNat 32 (if e = pick (G X W t.val) ∧ load (G X W) e t.val < 64 then 1 else 0) := by
  pointwise [kept]
  rw [mask_apply, setWidth_slt]
  by_cases he : e = pick (G X W t.val)
  · subst he
    have hle := load_le (G X W) (pick (G X W t.val)) t.val
    have ht := t.isLt
    rw [places_pick, toInt_ofNat (by omega), toInt_ofNat (a := 64) (by norm_num), hit, if_pos rfl]
    by_cases h : load (G X W) (pick (G X W t.val)) t.val < 64
    · simp [h, IntOp.muli]
    · simp [h, IntOp.muli]
  · simp [hit, he, IntOp.muli]

/-- A token's place: how many tokens before it pick its expert, or 0 where it is dropped. -/
theorem place1_apply (t : Fin 4096) : place1 (mask X W) (ix1 t)
    = BitVec.ofNat 32 (if load (G X W) (pick (G X W t.val)) t.val < 64
        then load (G X W) (pick (G X W t.val)) t.val else 0) := by
  pointwise [place1]
  rw [fold_addi_single _ _ (pick (G X W t.val)) fun e he => ?_, if_pos (Finset.mem_univ _), places_pick, kept_apply]
  · by_cases h : load (G X W) (pick (G X W t.val)) t.val < 64 <;> simp [h, IntOp.muli]
  · rw [kept_apply]
    simp [he, IntOp.muli]

/-- Result 2 of the reference. -/
theorem weights_apply (t : Fin 4096) (e c : Fin 64) : weights X W (ix3 t e c) = weight (G X W) t.val e c := by
  unfold weights
  pointwise [combine, eqIota]
  rw [gate1_apply, kept_apply, place1_apply, uitofp_eq, sitofp_ofNat (by split <;> omega), weight]
  have hc := c.isLt
  by_cases he : e = pick (G X W t.val)
  · subst he
    have hle := load_le (G X W) (pick (G X W t.val)) t.val
    have ht := t.isLt
    by_cases h : load (G X W) (pick (G X W t.val)) t.val < 64
    · simp only [h, and_self, if_true, true_and, ofNat_inj (show load (G X W) (pick (G X W t.val)) t.val < 2 ^ 32 by omega)
        (show c.val < 2 ^ 32 by omega)]
      split <;> simp
    · have h' : load (G X W) (pick (G X W t.val)) t.val ≠ c.val := by omega
      simp [h, h']
  · simp [he]

/-- Result 3 of the reference. -/
theorem sends_apply (t : Fin 4096) (e c : Fin 64) :
    sends X W (ix3 t e c) = BitVec.ofBool (decide (weight (G X W) t.val e c ≠ 0)) := by
  unfold sends
  pointwise [dispatch]
  rw [weights_apply]

/-- Result 1 of the reference. -/
theorem loss_apply (j : S_.Idx) : loss X W j = balance (G X W) := by
  have hm : ∀ e : Fin 64, (∑ t, FloatOps.sitofp (F := Ideal) .f32 (mask X W (ix2 t e))) = ((load (G X W) e 4096 : ℕ) : EReal) := fun e => by
    have hs : ∀ t : Fin 4096, hit (G X W) e t.val < 2 ^ 31 := fun t => by unfold hit; split <;> norm_num
    rw [Finset.sum_congr rfl fun t _ => (congrArg _ (mask_apply X W t e)).trans (sitofp_ofNat (hs t)), sum_natCast, load, Finset.sum_range]
  unfold loss
  pointwise [aux, meanOf]
  simp only [hm, gates_apply, div_64, div_4096]
  rw [ofBits_64]
  have h1 : (1 / 4096 : ℝ) * (1 / 4096) = 1 / 4096 ^ 2 := by norm_num
  have h2 : (1 / 4096 ^ 2 : ℝ) * (1 / 64) * 64 * 64 = 64 / 4096 ^ 2 := by norm_num
  have hx : ∀ x : Fin 64, (∑ t : Fin 4096, G X W t.val x) * ((1 / 4096 : ℝ) : EReal)
      * (((load (G X W) x 4096 : ℕ) : EReal) * ((1 / 4096 : ℝ) : EReal))
      = ((load (G X W) x 4096 : ℕ) : EReal) * (∑ t : Fin 4096, G X W t.val x) * ((1 / 4096 ^ 2 : ℝ) : EReal) := fun x => by
    rw [mul_mul_mul_comm, ← EReal.coe_mul, mul_comm (∑ t : Fin 4096, G X W t.val x), h1]
  rw [Finset.sum_congr rfl fun x _ => hx x, sum_mul_coe _ _ _ (by norm_num), balance, mul_comm ((64 / 4096 ^ 2 : ℝ) : EReal)]
  generalize (∑ e : Fin 64, ((load (G X W) e 4096 : ℕ) : EReal) * ∑ t : Fin 4096, G X W t.val e) = s
  rw [← h2, EReal.coe_mul, EReal.coe_mul, EReal.coe_mul, ← mul_assoc, ← mul_assoc, ← mul_assoc]

end Cert.Top1.Ref

end
-- ==== Proof.Top1.Equation.lean ====
/- The equation between the two programs: from equal arguments the kernel's three results are the reference's. -/
module

public import proofs.«01_k».proof.Proof.Top1.KernelRun
public import proofs.«01_k».proof.Proof.Top1.RefRun
public import proofs.«01_k».proof.Proof.Top1.RefValue

@[expose] public section

set_option maxRecDepth 16384

noncomputable section

open Idealize.ShloMosaic Idealize.ShloMosaic.TcCoe Idealize.SL.Sem

namespace Cert.Top1.Equation

open Cert.KernelIdeal Cert.KernelIdeal.Gen Cert.Top1.Carry Cert.Top1.Arrays

variable (m : (ℓ : Loc nD τ sig) → Buf (Elt Ideal) ℓ) (c : Dev nD)

/-- The kernel's combine weights at a token, an expert and a place. -/
theorem weights_apply (t : Fin 4096) (e s : Fin 64) :
    KernelRun.weights m c (ix3 t e s) = weight (G m c) t.val e s := by
  pointwise [KernelRun.weights]
  rfl

/-- The kernel's dispatch mask at a token, an expert and a place. -/
theorem sends_apply (t : Fin 4096) (e s : Fin 64) :
    KernelRun.sends m c (ix3 t e s) = BitVec.ofBool (decide (weight (G m c) t.val e s ≠ 0)) := by
  have hb : ∀ b : Bool, BitVec.ofBool (BitVec.setWidth 8 (BitVec.ofBool b) != 0#8) = BitVec.ofBool b := by decide
  refine Eq.trans ?_ (hb _)
  pointwise [KernelRun.sends]
  rfl

/-- The loss is the reference's. -/
theorem loss_eq : KernelRun.loss m c
    = Ref.loss (m ((c.tc : Thread nD τ).loc main_arg0)) (m ((c.tc : Thread nD τ).loc main_arg1)) := by
  funext j
  rw [Ref.loss_apply]
  rfl

/-- The combine weights are the reference's. -/
theorem weights_eq : KernelRun.weights m c
    = Ref.weights (m ((c.tc : Thread nD τ).loc main_arg0)) (m ((c.tc : Thread nD τ).loc main_arg1)) := by
  funext j
  idx_vars j
  rw [weights_apply]
  exact (Ref.weights_apply _ _ j0 j1 j2).symm

/-- The dispatch mask is the reference's. -/
theorem sends_eq : KernelRun.sends m c
    = Ref.sends (m ((c.tc : Thread nD τ).loc main_arg0)) (m ((c.tc : Thread nD τ).loc main_arg1)) := by
  funext j
  idx_vars j
  rw [sends_apply]
  exact (Ref.sends_apply _ _ j0 j1 j2).symm

end Cert.Top1.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Top1.Equation
public import Idealize.ShloMosaic.Adequacy
public import Idealize.ShloMosaic.Init

@[expose] public section

noncomputable section

namespace Cert.Proof

open Idealize.ShloMosaic Idealize.SL.Sem Cert.Kernel

/-- The reference runs, its arguments end unchanged and every semaphore counter reads zero: it has no semaphores. -/
theorem frame_reference [Cert.ReferenceIdeal.Facts] : Cert.quiescent_ReferenceIdeal := fun m g _ =>
  (θ_run _ _ _).mono (fun r h => ⟨fun c => ⟨(h c).2.2.2.1, (h c).2.2.2.2⟩,
    Idealize.ShloMosaic.sem_eq_zero_of_no_sems (by decide) r.2⟩) (Cert.Top1.Ref.run m g)

/-- From equal arguments the kernel and the reference both run and end with equal results: the loss, the combine weights
    and the dispatch mask. -/
theorem equal_results [Cert.KernelIdeal.Facts] [Cert.ReferenceIdeal.Facts] :
    Cert.algebraic_KernelIdeal_ReferenceIdeal := fun m g m' g' _ hagree =>
  ⟨Cert.Top1.KernelRun.loss m, Cert.Top1.KernelRun.weights m, Cert.Top1.KernelRun.sends m, Cert.Top1.KernelRun.run m g,
    (θ_run _ _ _).mono (fun r h c => by
      obtain ⟨h0, h1, h2, ha, hb⟩ := h c
      obtain ⟨e0, e1⟩ := hagree c
      rw [e0, e1] at h0 h1 h2
      exact ⟨h0.trans (Cert.Top1.Equation.loss_eq m c).symm, h1.trans (Cert.Top1.Equation.weights_eq m c).symm,
        h2.trans (Cert.Top1.Equation.sends_eq m c).symm, ha, hb⟩) (Cert.Top1.Ref.run m' g')⟩

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial,
  equal_results⟩

end Cert.Proof

end
